-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_affine [hPre_unit_affine : Cert.Pre_unit_affine.Facts] (m : (ℓ : Loc Cert.KernelIdeal.nD Cert.KernelIdeal.τ Cert.KernelIdeal.sig) → Buf (Elt Ideal) ℓ) : Prop :=
  ∀ c : Dev Cert.KernelIdeal.nD,
    (Cert.Pre_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_affine [hPre_unit_affine : Cert.Pre_unit_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_unit_affine [hKernelIdeal : Cert.KernelIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_unit_affine [hReferenceIdeal : Cert.ReferenceIdeal.Facts] [hPre_unit_affine : Cert.Pre_unit_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_unit_affine [hKernelIdeal : Cert.KernelIdeal.Facts] [hReferenceIdeal : Cert.ReferenceIdeal.Facts] [hPre_unit_affine : Cert.Pre_unit_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_unit_affine : Cert.Pre_unit_affine.Facts),
    quiescent_Kernel (hKernel := hKernel)
    ∧ quiescent_KernelIdeal (hKernelIdeal := hKernelIdeal)
    ∧ quiescent_KernelIdeal_pre_unit_affine (hKernelIdeal := hKernelIdeal) (hPre_unit_affine := hPre_unit_affine)
    ∧ quiescent_ReferenceIdeal (hReferenceIdeal := hReferenceIdeal)
    ∧ quiescent_ReferenceIdeal_pre_unit_affine (hReferenceIdeal := hReferenceIdeal) (hPre_unit_affine := hPre_unit_affine)
    ∧ preserves_Kernel_KernelIdeal
    ∧ algebraic_KernelIdeal_ReferenceIdeal_pre_unit_affine (hKernelIdeal := hKernelIdeal) (hReferenceIdeal := hReferenceIdeal) (hPre_unit_affine := hPre_unit_affine)
-- ==== Pre_unit_affine.lean ====
abbrev S16384x200x16 : Shape := ⟨3, ![16384, 200, 16]⟩
abbrev S16x256 : Shape := ⟨2, ![16, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S16384x200x16 .f32) (main_arg1 : FVec F S16x256 .f32) (main_arg2 : FVec F S256 .f32) (main_arg3 : FVec F S256 .f32) (main_arg4 : FVec F S256 .f32) (main_arg5 : FVec F S256x1 .f32) (main_arg6 : FVec F S1 .f32) : IVec S256 1 :=
  let main_cst : FVec F S_ .f32 := constant S_ .f32 0x3F800000#32
  let main_v0 : FVec F S256 .f32 := broadcastInDim S256 ![] bcast_S_S256 main_cst
  let main_v1 : IVec S256 1 := cmpf .oeq main_arg3 main_v0
  let main_cst_0 : FVec F S_ .f32 := constant S_ .f32 0x00000000#32
  let main_v2 : FVec F S256 .f32 := broadcastInDim S256 ![] bcast_S_S256 main_cst_0
  let main_v3 : IVec S256 1 := cmpf .oeq main_arg4 main_v2
  let main_v4 : IVec S256 1 := andi main_v1 main_v3
  main_v4
-- ==== Kernel.lean ====
abbrev S16384x200x16 : Shape := ⟨3, ![16384, 200, 16]⟩
abbrev S16x256 : Shape := ⟨2, ![16, 256]⟩
abbrev S256 : Shape := ⟨1, ![256]⟩
abbrev S256x1 : Shape := ⟨2, ![256, 1]⟩
abbrev S1 : Shape := ⟨1, ![1]⟩
abbrev S3276800x16 : Shape := ⟨2, ![3276800, 16]⟩
abbrev S256x16 : Shape := ⟨2, ![256, 16]⟩
abbrev S_ : Shape := ⟨0, ![]⟩
abbrev S16 : Shape := ⟨1, ![16]⟩
abbrev S1x16 : Shape := ⟨2, ![1, 16]⟩
abbrev S7x16 : Shape := ⟨2, ![7, 16]⟩
abbrev S264x16 : Shape := ⟨2, ![264, 16]⟩
abbrev S1x256 : Shape := ⟨2, ![1, 256]⟩
abbrev S1x1 : Shape := ⟨2, ![1, 1]⟩
abbrev S1x3276800 : Shape := ⟨2, ![1, 3276800]⟩
abbrev S20480x16 : Shape := ⟨2, ![20480, 16]⟩
abbrev S1x20480 : Shape := ⟨2, ![1, 20480]⟩
abbrev S264x20480 : Shape := ⟨2, ![264, 20480]⟩
abbrev S256x20480 : Shape := ⟨2, ![256, 20480]⟩
abbrev S16384x200 : Shape := ⟨2, ![16384, 200]⟩

abbrev nBuf : Space → Nat
  | .hbm => 28
  | .vmem => 10
  | .smem => 0
  | _ => 0

abbrev bufTy : (tb : Table) → Fin (tcTables nBuf tb) → BufTy
  | .hbm, ⟨0, _⟩ => ⟨S16384x200x16, .f32⟩
  | .hbm, ⟨1, _⟩ => ⟨S16x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S3276800x16, .f32⟩
  | .hbm, ⟨8, _⟩ => ⟨S256x16, .f32⟩
  | .hbm, ⟨9, _⟩ => ⟨S_, .f32⟩
  | .hbm, ⟨10, _⟩ => ⟨S16, .f32⟩
  | .hbm, ⟨11, _⟩ => ⟨S1x16, .f32⟩
  | .hbm, ⟨12, _⟩ => ⟨S_, .f32⟩
  | .hbm, ⟨13, _⟩ => ⟨S7x16, .f32⟩
  | .hbm, ⟨14, _⟩ => ⟨S264x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256x1, .f32⟩
  | .hbm, ⟨22, _⟩ => ⟨S1x256, .f32⟩
  | .hbm, ⟨23, _⟩ => ⟨S1x1, .f32⟩
  | .hbm, ⟨24, _⟩ => ⟨S1x3276800, .f32⟩
  | .hbm, ⟨25, _⟩ => ⟨S1x3276800, .f32⟩
  | .hbm, ⟨26, _⟩ => ⟨S16384x200, .f32⟩
  | .hbm, ⟨27, _⟩ => ⟨S16384x200, .f32⟩
  | .local _ .vmem, ⟨0, _⟩ => ⟨S20480x16, .f32⟩
  | .local _ .vmem, ⟨1, _⟩ => ⟨S20480x16, .f32⟩
  | .local _ .vmem, ⟨2, _⟩ => ⟨S264x16, .f32⟩
  | .local _ .vmem, ⟨3, _⟩ => ⟨S256x1, .f32⟩
  | .local _ .vmem, ⟨4, _⟩ => ⟨S1x256, .f32⟩
  | .local _ .vmem, ⟨5, _⟩ => ⟨S1x1, .f32⟩
  | .local _ .vmem, ⟨6, _⟩ => ⟨S1x20480, .f32⟩
  | .local _ .vmem, ⟨7, _⟩ => ⟨S1x20480, .f32⟩
  | .local _ .vmem, ⟨8, _⟩ => ⟨S1x20480, .f32⟩
  | .local _ .vmem, ⟨9, _⟩ => ⟨S1x20480, .f32⟩
  | _, _ => ⟨S16384x200x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20480x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S264x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x20480 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x20480 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x200x16 : Shape := ⟨3, ![16384, 200, 16]⟩
abbrev S16x256 : Shape := ⟨2, ![16, 256]⟩
abbrev S256 : Shape := ⟨1, ![256]⟩
abbrev S256x1 : Shape := ⟨2, ![256, 1]⟩
abbrev S1 : Shape := ⟨1, ![1]⟩
abbrev S16384x200x256 : Shape := ⟨3, ![16384, 200, 256]⟩
abbrev S1x1x256 : Shape := ⟨3, ![1, 1, 256]⟩
abbrev S_ : Shape := ⟨0, ![]⟩
abbrev S16384x200 : Shape := ⟨2, ![16384, 200]⟩
abbrev S16384x200x1 : Shape := ⟨3, ![16384, 200, 1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x200x16, .f32⟩
  | .hbm, ⟨1, _⟩ => ⟨S16x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S16384x200x256, .f32⟩
  | .hbm, ⟨8, _⟩ => ⟨S1x1x256, .f32⟩
  | .hbm, ⟨9, _⟩ => ⟨S16384x200x256, .f32⟩
  | .hbm, ⟨10, _⟩ => ⟨S16384x200x256, .f32⟩
  | .hbm, ⟨11, _⟩ => ⟨S_, .f32⟩
  | .hbm, ⟨12, _⟩ => ⟨S16384x200, .f32⟩
  | .hbm, ⟨13, _⟩ => ⟨S16384x200x1, .f32⟩
  | .hbm, ⟨14, _⟩ => ⟨S_, .f32⟩
  | .hbm, ⟨15, _⟩ => ⟨S16384x200x1, .f32⟩
  | .hbm, ⟨16, _⟩ => ⟨S16384x200x1, .f32⟩
  | .hbm, ⟨17, _⟩ => ⟨S16384x200x256, .f32⟩
  | .hbm, ⟨18, _⟩ => ⟨S16384x200x256, .f32⟩
  | .hbm, ⟨19, _⟩ => ⟨S16384x200x256, .f32⟩
  | .hbm, ⟨20, _⟩ => ⟨S_, .f32⟩
  | .hbm, ⟨21, _⟩ => ⟨S16384x200, .f32⟩
  | .hbm, ⟨22, _⟩ => ⟨S16384x200x1, .f32⟩
  | .hbm, ⟨23, _⟩ => ⟨S_, .f32⟩
  | .hbm, ⟨24, _⟩ => ⟨S16384x200x1, .f32⟩
  | .hbm, ⟨25, _⟩ => ⟨S16384x200x1, .f32⟩
  | .hbm, ⟨26, _⟩ => ⟨S16384x200x256, .f32⟩
  | .hbm, ⟨27, _⟩ => ⟨S16384x200x256, .f32⟩
  | .hbm, ⟨28, _⟩ => ⟨S_, .f32⟩
  | .hbm, ⟨29, _⟩ => ⟨S16384x200x1, .f32⟩
  | .hbm, ⟨30, _⟩ => ⟨S16384x200x1, .f32⟩
  | .hbm, ⟨31, _⟩ => ⟨S16384x200x1, .f32⟩
  | .hbm, ⟨32, _⟩ => ⟨S16384x200x256, .f32⟩
  | .hbm, ⟨33, _⟩ => ⟨S16384x200x256, .f32⟩
  | .hbm, ⟨34, _⟩ => ⟨S1x1x256, .f32⟩
  | .hbm, ⟨35, _⟩ => ⟨S16384x200x256, .f32⟩
  | .hbm, ⟨36, _⟩ => ⟨S16384x200x256, .f32⟩
  | .hbm, ⟨37, _⟩ => ⟨S1x1x256, .f32⟩
  | .hbm, ⟨38, _⟩ => ⟨S16384x200x256, .f32⟩
  | .hbm, ⟨39, _⟩ => ⟨S16384x200x256, .f32⟩
  | .hbm, ⟨40, _⟩ => ⟨S_, .f32⟩
  | .hbm, ⟨41, _⟩ => ⟨S16384x200x256, .f32⟩
  | .hbm, ⟨42, _⟩ => ⟨S16384x200x256, .f32⟩
  | .hbm, ⟨43, _⟩ => ⟨S16384x200x1, .f32⟩
  | .hbm, ⟨44, _⟩ => ⟨S1x1x1, .f32⟩
  | .hbm, ⟨45, _⟩ => ⟨S16384x200x1, .f32⟩
  | .hbm, ⟨46, _⟩ => ⟨S16384x200x1, .f32⟩
  | .hbm, ⟨47, _⟩ => ⟨S16384x200, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16384x200, .f32⟩
  | .hbm, ⟨52, _⟩ => ⟨S16384x200, .f32⟩
  | .hbm, ⟨53, _⟩ => ⟨S_, .f32⟩
  | .hbm, ⟨54, _⟩ => ⟨S16384x200, .f32⟩
  | .hbm, ⟨55, _⟩ => ⟨S16384x200, .f32⟩
  | .hbm, ⟨56, _⟩ => ⟨S16384x200, .f32⟩
  | .hbm, ⟨57, _⟩ => ⟨S16384x200, .f32⟩
  | .hbm, ⟨58, _⟩ => ⟨S_, .f32⟩
  | .hbm, ⟨59, _⟩ => ⟨S16384x200, .f32⟩
  | .hbm, ⟨60, _⟩ => ⟨S16384x200, .f32⟩
  | .hbm, ⟨61, _⟩ => ⟨S_, .f32⟩
  | .hbm, ⟨62, _⟩ => ⟨S16384x200, .f32⟩
  | .hbm, ⟨63, _⟩ => ⟨S16384x200, .f32⟩
  | _, _ => ⟨S16384x200x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Proof.Mlp.Extended.lean ====
/-
  Hand-written, untrusted. Arithmetic of extended reals that the equation between the kernel and the reference needs: when a
  sum is finite, when it is infinite, and when a factor may be taken out of it.
-/
module

public import Idealize.ShloMosaic.PureOps.Ideal
public import Idealize.ShloMosaic.PureOps.Ideal.Laws
public import Idealize.ShloMosaic.Lib.IdealHost

@[expose] public section

noncomputable section

namespace Cert.Proof.Mlp

open Idealize.ShloMosaic
open scoped BigOperators

/-- An extended real that is not a real number. -/
def Infinite (x : EReal) : Prop := x = ⊤ ∨ x = ⊥

/-- An extended real that is not infinite is a real number. -/
theorem exists_real {x : EReal} (h : ¬ Infinite x) : ∃ r : ℝ, x = (r : EReal) := by
  induction x with
  | bot => exact absurd (Or.inr rfl) h
  | top => exact absurd (Or.inl rfl) h
  | coe r => exact ⟨r, rfl⟩

/-- A real number is not infinite. -/
theorem not_infinite_coe (r : ℝ) : ¬ Infinite (r : EReal) := by
  rintro (h | h)
  · exact EReal.coe_ne_top r h
  · exact EReal.coe_ne_bot r h

/-- A sum whose left summand is infinite is infinite. -/
theorem Infinite.add_left {x : EReal} (h : Infinite x) (y : EReal) : Infinite (x + y) := by
  rcases h with rfl | rfl
  · induction y with
    | bot => exact Or.inr rfl
    | top => exact Or.inl rfl
    | coe r => exact Or.inl (EReal.top_add_coe r)
  · exact Or.inr (EReal.bot_add y)

/-- A sum whose right summand is infinite is infinite. -/
theorem Infinite.add_right {y : EReal} (h : Infinite y) (x : EReal) : Infinite (x + y) := by
  rw [add_comm]; exact h.add_left x

/-- The opposite of an infinite number is infinite. -/
theorem Infinite.neg {x : EReal} (h : Infinite x) : Infinite (-x) := by
  rcases h with rfl | rfl
  · exact Or.inr EReal.neg_top
  · exact Or.inl EReal.neg_bot

/-- A difference whose left term is infinite is infinite. -/
theorem Infinite.sub_left {x : EReal} (h : Infinite x) (y : EReal) : Infinite (x - y) := by
  rw [sub_eq_add_neg]; exact h.add_left _

/-- A difference whose right term is infinite is infinite. -/
theorem Infinite.sub_right {y : EReal} (h : Infinite y) (x : EReal) : Infinite (x - y) := by
  rw [sub_eq_add_neg]; exact h.neg.add_right _

/-- The square of an infinite number is plus infinity. -/
theorem Infinite.sq {x : EReal} (h : Infinite x) : x * x = ⊤ := by
  rcases h with rfl | rfl
  · exact EReal.top_mul_top
  · exact EReal.bot_mul_bot

/-- An infinite number times a number that is not zero is infinite. -/
theorem Infinite.mul {x : EReal} (h : Infinite x) {y : EReal} (hy : y ≠ 0) : Infinite (x * y) := by
  rcases lt_or_gt_of_ne hy with hn | hp
  · rcases h with rfl | rfl
    · exact Or.inr (EReal.top_mul_of_neg hn)
    · exact Or.inl (EReal.bot_mul_of_neg hn)
  · rcases h with rfl | rfl
    · exact Or.inl (EReal.top_mul_of_pos hp)
    · exact Or.inr (EReal.bot_mul_of_pos hp)

/-- A finite sum with an infinite term is infinite. -/
theorem infinite_sum {ι : Type} [Fintype ι] [DecidableEq ι] (f : ι → EReal) (i : ι) (h : Infinite (f i)) :
    Infinite (∑ j, f j) := by
  rw [← Finset.add_sum_erase Finset.univ f (Finset.mem_univ i)]
  exact h.add_left _

/-- A finite sum of real numbers is the real sum. -/
theorem sum_coe {ι : Type} [Fintype ι] (f : ι → ℝ) : ∑ j, ((f j : ℝ) : EReal) = ((∑ j, f j : ℝ) : EReal) := by
  classical
  induction (Finset.univ : Finset ι) using Finset.induction_on with
  | empty => simp
  | insert a s ha ih => rw [Finset.sum_insert ha, Finset.sum_insert ha, ih, EReal.coe_add]

/-- A square is not negative. -/
theorem sq_nonneg_ext (x : EReal) : 0 ≤ x * x := by
  by_cases h : Infinite x
  · rw [h.sq]; exact le_top
  · obtain ⟨r, rfl⟩ := exists_real h
    rw [← EReal.coe_mul]; exact EReal.coe_nonneg.mpr (mul_self_nonneg r)

/-- A sum of terms that are not negative, one of which is plus infinity, is plus infinity. -/
theorem sum_eq_top {ι : Type} [Fintype ι] (f : ι → EReal) (h0 : ∀ j, 0 ≤ f j) (i : ι) (h : f i = ⊤) : ∑ j, f j = ⊤ := by
  have := Finset.single_le_sum (f := f) (fun j _ => h0 j) (Finset.mem_univ i)
  rw [h] at this
  exact top_le_iff.mp this

/-- A real factor that is not negative may be taken out of any finite sum of extended reals. -/
theorem sum_mul_coe {ι : Type} [Fintype ι] (f : ι → EReal) {r : ℝ} (hr : 0 ≤ r) :
    ∑ j, f j * (r : EReal) = (∑ j, f j) * (r : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A factor may be taken out of a finite sum when every product is finite: either the factor is a real number different from
    zero, and then so are the terms, or the factor is zero, or it is infinite and every term is zero. -/
theorem sum_mul_of_finite {ι : Type} [Fintype ι] (f : ι → EReal) (x : EReal) (h : ∀ j, ¬ Infinite (f j * x)) :
    (∑ j, f j) * x = ∑ j, f j * x := by
  by_cases hx : Infinite x
  · have h0 : ∀ j, f j = 0 := fun j => by
      by_contra hne
      exact h j (by rw [mul_comm]; exact hx.mul hne)
    simp [h0]
  · obtain ⟨r, rfl⟩ := exists_real hx
    by_cases hr : r = 0
    · subst hr; simp
    · have hf : ∀ j, ∃ s : ℝ, f j = (s : EReal) := fun j => exists_real fun hi =>
        h j (hi.mul (by exact_mod_cast hr))
      choose s hs using hf
      simp only [hs, sum_coe, ← EReal.coe_mul, Finset.sum_mul]

end Cert.Proof.Mlp

end
-- ==== Proof.Mlp.Scalar.lean ====
/-
  Hand-written, untrusted. The two computations of ONE logit as formulas over extended reals, and their equality: the kernel's
  (the mean taken through the summed columns of the weights, the hidden bias centred beforehand, the normalising factor applied
  after the second product) and the reference's (layer norm of the hidden row, then the second product).
-/
module

public import proofs.«01_k».proof.Proof.Mlp.Extended

@[expose] public section

noncomputable section

namespace Cert.Proof.Mlp

open Idealize.ShloMosaic
open scoped BigOperators

/-- The number added to the variance, as the two programs spell it. -/
abbrev eps : EReal := Ideal.ofBits .f32 0x3727C5AC#32

/-- That number is a positive real. -/
theorem eps_real : ∃ e : ℝ, 0 < e ∧ eps = (e : EReal) := by
  refine ⟨(2 ^ 23 + 2606508 : ℝ) * (2 : ℝ) ^ (-40 : ℤ), by positivity, ?_⟩
  simp [eps, Ideal.ofBits, Ideal.ieee, -EReal.coe_mul]; norm_num

/-- The word of the kernel's factor is the real 1/256. -/
theorem inv256 : Ideal.ofBits .f32 0x3B800000#32 = (((1 : ℝ) / 256 : ℝ) : EReal) := by
  simp [Ideal.ofBits, Ideal.ieee, -EReal.coe_mul]; norm_num

/-- The word of the divisor is the real 256. -/
theorem c256 : Ideal.ofBits .f32 0x43800000#32 = ((256 : ℝ) : EReal) := by
  simp [Ideal.ofBits, Ideal.ieee, -EReal.coe_mul]; norm_num

/-- Division by 256 is multiplication by 1/256. -/
theorem div256 (x : EReal) : Ideal.div x ((256 : ℝ) : EReal) = x * (((1 : ℝ) / 256 : ℝ) : EReal) :=
  Ideal.div_coe (by norm_num) x

variable (x : Fin 16 → EReal) (W : Fin 16 → Fin 256 → EReal) (b w2 : Fin 256 → EReal) (b2 : EReal)

/-- The kernel's centred hidden row: the product less its mean (through the summed columns), plus the centred bias. -/
def kerD (j : Fin 256) : EReal :=
  ((∑ k, W k j * x k) - (∑ k, (∑ j, W k j) * x k) * (((1 : ℝ) / 256 : ℝ) : EReal))
    + (b j - Ideal.div (∑ j, b j) ((256 : ℝ) : EReal))

/-- The kernel's normalising factor: the reciprocal root of the mean square plus `eps`. -/
def kerR : EReal := Ideal.rsqrt ((∑ j, (((1 : ℝ) / 256 : ℝ) : EReal) * (kerD x W b j * kerD x W b j)) + eps)

/-- The kernel's logit before the clip. -/
def kerLogit : EReal := (∑ j, w2 j * max (kerD x W b j) 0) * kerR x W b + b2

/-- The reference's hidden row. -/
def refH (j : Fin 256) : EReal := (∑ k, x k * W k j) + b j

/-- The reference's centred hidden row. -/
def refD (j : Fin 256) : EReal := refH x W b j - Ideal.div (∑ j, refH x W b j) ((256 : ℝ) : EReal)

/-- The reference's standard deviation. -/
def refS : EReal := Ideal.sqrt (Ideal.div (∑ j, refD x W b j * refD x W b j) ((256 : ℝ) : EReal) + eps)

/-- The reference's logit before the clip, at scale one and shift zero. -/
def refLogit : EReal := (∑ j, max (Ideal.div (refD x W b j) (refS x W b) * 1 + 0) 0 * w2 j) + b2

/-- Plus infinity times 1/256 is plus infinity. -/
theorem top_mul_inv256 : (⊤ : EReal) * (((1 : ℝ) / 256 : ℝ) : EReal) = ⊤ :=
  EReal.top_mul_coe_of_pos (by norm_num)

/-- Infinite times 1/256 is infinite. -/
theorem Infinite.div256 {y : EReal} (h : Infinite y) : Infinite (Ideal.div y ((256 : ℝ) : EReal)) := by
  rw [Mlp.div256]
  exact h.mul (by exact_mod_cast (by norm_num : (1 : ℝ) / 256 ≠ 0))

/-- Plus infinity stays plus infinity when `eps` is added. -/
theorem top_add_eps : (⊤ : EReal) + eps = ⊤ := by
  obtain ⟨e, -, h⟩ := eps_real
  rw [h]; exact EReal.top_add_coe e

/-- If some hidden value of the row is infinite, the reference's logit is the output bias: every centred value is infinite,
    the standard deviation is plus infinity, and every normalised value is zero. -/
theorem refLogit_infinite (i : Fin 256) (h : Infinite (refH x W b i)) : refLogit x W b w2 b2 = b2 := by
  have hd : ∀ j, Infinite (refD x W b j) := fun j => (infinite_sum _ i h).div256.sub_right _
  have hs : refS x W b = ⊤ := by
    unfold refS
    rw [sum_eq_top _ (fun j => sq_nonneg_ext _) i (hd i).sq, Mlp.div256, top_mul_inv256, top_add_eps]
    rfl
  have hz : ∀ y : EReal, Ideal.div y ⊤ = 0 := fun y => by
    unfold Ideal.div; rw [if_neg (by simp), EReal.inv_top, mul_zero]
  unfold refLogit
  simp [hs, hz]

/-- If some centred value of the kernel's row is infinite, its logit is the output bias: the mean square is plus infinity and
    the normalising factor zero. -/
theorem kerLogit_infinite (i : Fin 256) (h : Infinite (kerD x W b i)) : kerLogit x W b w2 b2 = b2 := by
  have hc : (0 : EReal) ≤ (((1 : ℝ) / 256 : ℝ) : EReal) := EReal.coe_nonneg.mpr (by norm_num)
  have hr : kerR x W b = 0 := by
    unfold kerR
    rw [sum_eq_top _ (fun j => mul_nonneg hc (sq_nonneg_ext _)) i (by rw [h.sq, mul_comm, top_mul_inv256]), top_add_eps]
    rfl
  unfold kerLogit
  rw [hr, mul_zero, zero_add]

/-- The product through the summed columns is the sum of the row's products, where each of them is finite. -/
theorem colsum (h : ∀ j, ¬ Infinite (∑ k, W k j * x k)) :
    ∑ k, (∑ j, W k j) * x k = ∑ j, ∑ k, W k j * x k := by
  rw [Finset.sum_comm]
  exact Finset.sum_congr rfl fun k _ => sum_mul_of_finite _ _ fun j hi => h j (infinite_sum (fun k => W k j * x k) k hi)

/-- Where every product and every hidden bias is finite, the two centred rows are the same row of real numbers. -/
theorem centred (hp : ∀ j, ¬ Infinite (∑ k, W k j * x k)) (hb : ∀ j, ¬ Infinite (b j)) :
    ∃ D : Fin 256 → ℝ, (∀ j, kerD x W b j = (D j : EReal)) ∧ ∀ j, refD x W b j = (D j : EReal) := by
  choose P hP using fun j => exists_real (hp j)
  choose B hB using fun j => exists_real (hb j)
  refine ⟨fun j => P j - (∑ j, P j) * (1 / 256) + (B j - (∑ j, B j) * (1 / 256)), fun j => ?_, fun j => ?_⟩
  · unfold kerD
    rw [colsum x W hp]
    simp only [hP, hB, sum_coe, Mlp.div256, ← EReal.coe_mul, ← EReal.coe_sub, ← EReal.coe_add]
  · unfold refD refH
    simp only [mul_comm (x _), hP, hB, ← EReal.coe_add, sum_coe, Mlp.div256, ← EReal.coe_mul, ← EReal.coe_sub,
      Finset.sum_add_distrib]
    congr 1; ring

/-- Where both centred rows are the same row of real numbers, the two logits agree: the normalising factor is a positive real
    and moves out of the maximum and out of the sum. -/
theorem logit_of_centred (D : Fin 256 → ℝ) (hk : ∀ j, kerD x W b j = (D j : EReal)) (hr : ∀ j, refD x W b j = (D j : EReal)) :
    kerLogit x W b w2 b2 = refLogit x W b w2 b2 := by
  obtain ⟨e, he, hee⟩ := eps_real
  have hv : 0 < (∑ j, D j * D j) * (1 / 256) + e := by
    have : 0 ≤ ∑ j, D j * D j := Finset.sum_nonneg fun j _ => mul_self_nonneg _
    positivity
  have hR : kerR x W b = (((Real.sqrt ((∑ j, D j * D j) * (1 / 256) + e))⁻¹ : ℝ) : EReal) := by
    unfold kerR
    simp only [hk, mul_comm (((1 : ℝ) / 256 : ℝ) : EReal), ← EReal.coe_mul, sum_coe, hee, ← EReal.coe_add, ← Finset.sum_mul]
    show (if _ < 0 then ⊥ else if _ = 0 then ⊤ else _) = _
    rw [if_neg hv.le.not_gt, if_neg hv.ne']
  have hS : refS x W b = ((Real.sqrt ((∑ j, D j * D j) * (1 / 256) + e) : ℝ) : EReal) := by
    unfold refS
    simp only [hr, ← EReal.coe_mul, sum_coe, hee, Mlp.div256, ← EReal.coe_add]
    show (if _ < 0 then ⊥ else _) = _
    rw [if_neg hv.le.not_gt]
  have hs : 0 < Real.sqrt ((∑ j, D j * D j) * (1 / 256) + e) := Real.sqrt_pos.mpr hv
  unfold kerLogit refLogit
  rw [hR, ← sum_mul_coe _ (inv_pos.mpr hs).le]
  refine congrArg (· + b2) (Finset.sum_congr rfl fun j _ => ?_)
  rw [hS, hk, hr, Ideal.div_coe hs.ne', mul_one, add_zero, mul_assoc, mul_comm]
  refine congrArg (· * w2 j) ?_
  have hm : ∀ a c : ℝ, max (a : EReal) (c : EReal) = ((max a c : ℝ) : EReal) := fun a c =>
    (EReal.coe_strictMono.monotone.map_max (a := a) (b := c)).symm
  rw [one_div (Real.sqrt _), ← EReal.coe_mul, ← EReal.coe_zero, hm, hm, ← EReal.coe_mul,
    max_mul_of_nonneg _ _ (inv_pos.mpr hs).le, zero_mul]

/-- THE EQUATION: the kernel's logit is the reference's, whatever extended reals the arguments hold. -/
theorem kerLogit_eq_refLogit : kerLogit x W b w2 b2 = refLogit x W b w2 b2 := by
  by_cases hp : ∃ j, Infinite (∑ k, W k j * x k)
  · obtain ⟨i, hi⟩ := hp
    rw [kerLogit_infinite x W b w2 b2 i ((hi.sub_left _).add_left _),
      refLogit_infinite x W b w2 b2 i (by unfold refH; simp only [mul_comm (x _)]; exact hi.add_left _)]
  · push Not at hp
    by_cases hb : ∃ j, Infinite (b j)
    · obtain ⟨i, hi⟩ := hb
      rw [kerLogit_infinite x W b w2 b2 i (((infinite_sum b i hi).div256.sub_right _).add_right _),
        refLogit_infinite x W b w2 b2 i (hi.add_right _)]
    · push Not at hb
      obtain ⟨D, hk, hr⟩ := centred x W b hp hb
      exact logit_of_centred x W b w2 b2 D hk hr

end Cert.Proof.Mlp

end
-- ==== Proof.Mlp.Block.lean ====
/-
  Hand-written, untrusted. What the kernel's body computes on ONE block, read at a lane: the clipped logit of one row of the
  block, from the folded weights (256 rows of columns, one row of column sums), the centred bias, the second weights and the
  output bias.
-/
module

public import proofs.«01_k».proof.Proof.Gen.KernelIdeal.Skeleton
public import proofs.«01_k».proof.Proof.Mlp.Scalar
public import Idealize.ShloMosaic.Lib.Pointwise

@[expose] public section

noncomputable section

namespace Cert.Proof.Mlp

open Idealize.ShloMosaic Cert.KernelIdeal Cert.KernelIdeal.Gen
open scoped BigOperators

/-- The clip to [-10, 10], as both programs spell it. -/
def clip10 (y : EReal) : EReal := min (Ideal.ofBits .f32 0x41200000#32) (max (Ideal.ofBits .f32 0xC1200000#32) y)

variable {M : ℕ}

/-- The centred hidden value `j` of row `n` of an array of `M` rows. -/
def rowD (x : FVec Ideal ⟨2, ![M, 16]⟩ .f32) (w : FVec Ideal S264x16 .f32) (c : FVec Ideal S256x1 .f32) (n : Fin M) (j : Fin 256) : EReal :=
  (∑ k : Fin 16, w (ix2 ⟨j.val, by omega⟩ k) * x (ix2 n k))
      - (∑ k : Fin 16, w (ix2 256 k) * x (ix2 n k)) * (((1 : ℝ) / 256 : ℝ) : EReal)
    + c (ix2 j 0)

/-- The clipped logit of row `n` of an array of `M` rows. -/
def rowLogit (x : FVec Ideal ⟨2, ![M, 16]⟩ .f32) (w : FVec Ideal S264x16 .f32) (c : FVec Ideal S256x1 .f32) (w2 : FVec Ideal S1x256 .f32)
    (b2 : FVec Ideal S1x1 .f32) (n : Fin M) : EReal :=
  clip10 ((∑ j : Fin 256, w2 (ix2 0 j) * max (rowD x w c n j) 0)
      * Ideal.rsqrt ((∑ j : Fin 256, (((1 : ℝ) / 256 : ℝ) : EReal) * (rowD x w c n j * rowD x w c n j)) + eps)
    + b2 (ix2 0 0))

/-- The clipped logit of a row depends on the array of rows through that row only. -/
theorem rowLogit_congr {M' : ℕ} (x : FVec Ideal ⟨2, ![M, 16]⟩ .f32) (x' : FVec Ideal ⟨2, ![M', 16]⟩ .f32) (w : FVec Ideal S264x16 .f32)
    (c : FVec Ideal S256x1 .f32) (w2 : FVec Ideal S1x256 .f32) (b2 : FVec Ideal S1x1 .f32) (n : Fin M) (n' : Fin M')
    (h : ∀ k, x (ix2 n k) = x' (ix2 n' k)) : rowLogit x w c w2 b2 n = rowLogit x' w c w2 b2 n' := by
  unfold rowLogit rowD
  simp only [h]

/-- The clipped logit of a row in terms of the row, the weight matrix, the bias, the output weights and the output bias, when the
    operands hold what the host operations put there. -/
theorem rowLogit_eq (x : FVec Ideal ⟨2, ![M, 16]⟩ .f32) (w : FVec Ideal S264x16 .f32) (c : FVec Ideal S256x1 .f32) (w2 : FVec Ideal S1x256 .f32)
    (b2 : FVec Ideal S1x1 .f32) (n : Fin M) (X : Fin 16 → EReal) (W : Fin 16 → Fin 256 → EReal) (B W2 : Fin 256 → EReal) (B2 : EReal)
    (hx : ∀ k, x (ix2 n k) = X k) (hw : ∀ (j : Fin 256) k, w (ix2 ⟨j.val, by omega⟩ k) = W k j) (hs : ∀ k, w (ix2 256 k) = ∑ j, W k j)
    (hc : ∀ j, c (ix2 j 0) = B j - Ideal.div (∑ j, B j) ((256 : ℝ) : EReal)) (hw2 : ∀ j, w2 (ix2 0 j) = W2 j) (hb2 : b2 (ix2 0 0) = B2) :
    rowLogit x w c w2 b2 n = clip10 (kerLogit X W B W2 B2) := by
  unfold rowLogit rowD
  simp only [hx, hw, hs, hc, hw2, hb2]
  rfl

/-- The body's first payload at lane `n` is the clipped logit of row `n` of the block. -/
theorem pay1_apply (x : FVec Ideal S20480x16 .f32) (w : FVec Ideal S264x16 .f32) (c : FVec Ideal S256x1 .f32)
    (w2 : FVec Ideal S1x256 .f32) (b2 : FVec Ideal S1x1 .f32) (n : Fin 20480) :
    k0_pay1 (F := Ideal) x w c w2 b2 (ix2 0 n) = rowLogit x w c w2 b2 n := by
  pointwise [k0_pay1]
  unfold rowLogit rowD clip10
  rw [← inv256]

/-- The body's second payload at lane `n` is the logistic function of that logit. -/
theorem pay2_apply (x : FVec Ideal S20480x16 .f32) (w : FVec Ideal S264x16 .f32) (c : FVec Ideal S256x1 .f32)
    (w2 : FVec Ideal S1x256 .f32) (b2 : FVec Ideal S1x1 .f32) (n : Fin 20480) :
    k0_pay2 (F := Ideal) x w c w2 b2 (ix2 0 n) = Ideal.logistic (rowLogit x w c w2 b2 n) := by
  rw [← pay1_apply]; rfl

end Cert.Proof.Mlp

end
-- ==== Proof.Mlp.Host.lean ====
/-
  Hand-written, untrusted. What the host operations before the kernel leave in its operands, read entry by entry in terms of the
  seven arguments.
-/
module

public import proofs.«01_k».proof.Proof.Gen.KernelIdeal.Frame
public import Idealize.ShloMosaic.Lib.StableHlo.Run
public import proofs.«01_k».proof.Proof.Mlp.Block

@[expose] public section

noncomputable section

namespace Cert.Proof.Mlp

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD)

/-- The kernel's seven arguments on a device, by their mathematical names. -/
abbrev kX : FVec Ideal S16384x200x16 .f32 := m ((c.tc : Thread nD τ).loc main_arg0)
abbrev kW : FVec Ideal S16x256 .f32 := m ((c.tc : Thread nD τ).loc main_arg1)
abbrev kB : FVec Ideal S256 .f32 := m ((c.tc : Thread nD τ).loc main_arg2)
abbrev kG : FVec Ideal S256 .f32 := m ((c.tc : Thread nD τ).loc main_arg3)
abbrev kH : FVec Ideal S256 .f32 := m ((c.tc : Thread nD τ).loc main_arg4)
abbrev kW2 : FVec Ideal S256x1 .f32 := m ((c.tc : Thread nD τ).loc main_arg5)
abbrev kB2 : FVec Ideal S1 .f32 := m ((c.tc : Thread nD τ).loc main_arg6)

/-- A buffer as the kernel finds it is what the host operations before it leave there. -/
theorem V_eq (b : Ref sig .tc) : V m c b = StableHlo.after hostOps0 (fun b => m (c, b)) (Proc.devRef .tc b) := rfl

/-- The rows the kernel streams: the input with its two batch dimensions laid out as one. -/
theorem V_rows : (V m c main_v0 : FVec Ideal S3276800x16 .f32) = shapeCast S3276800x16 (kX m c) shapeCasts_S16384x200x16_S3276800x16 := by
  rw [V_eq]; unfold hostOps0
  after_results
  rfl

/-- Three arrays laid one after the other depend on the three arrays only. -/
theorem concatenate_three {a a' : FVec Ideal S256x16 .f32} {b b' : FVec Ideal S1x16 .f32} {d d' : FVec Ideal S7x16 .f32}
    (ha : a = a') (hb : b = b') (hd : d = d') :
    concatenate S264x16 0 [⟨S256x16, a⟩, ⟨S1x16, b⟩, ⟨S7x16, d⟩] concatenates_S256x16_S1x16_S7x16_S264x16_d0
      = concatenate S264x16 0 [⟨S256x16, a'⟩, ⟨S1x16, b'⟩, ⟨S7x16, d'⟩] concatenates_S256x16_S1x16_S7x16_S264x16_d0 := by
  subst ha hb hd; rfl

/-- The weights the kernel streams: the transposed matrix, then one row of its sums, then seven rows of zeros. -/
theorem V_weights : (V m c main_v5 : FVec Ideal S264x16 .f32)
    = concatenate S264x16 0 [⟨S256x16, transpose S256x16 [1, 0] (kW m c) transposes_S16x256_S256x16_1_0⟩,
        ⟨S1x16, broadcastInDim S1x16 ![1] bcast_S16_S1x16_1
          (Host.reduceAdd (kW m c) (constant S_ FTy.f32 0x00000000#32) reducesTo_S16x256_S16_d1 h_S_)⟩,
        ⟨S7x16, broadcastInDim S7x16 ![] bcast_S_S7x16 (constant S_ FTy.f32 0x00000000#32)⟩]
        concatenates_S256x16_S1x16_S7x16_S264x16_d0 := by
  rw [V_eq]; unfold hostOps0
  after_results
  dsimp only [Matrix.cons_val]
  refine concatenate_three ?_ ?_ ?_ <;> after_results_simp

/-- Rows below 256 of the weights: the matrix, transposed. -/
theorem V_w_top (j : Fin 256) (k : Fin 16) : (V m c main_v5 : FVec Ideal S264x16 .f32) (ix2 ⟨j.val, by omega⟩ k) = kW m c (ix2 k j) := by
  rw [V_weights]
  pointwise

/-- Row 256 of the weights: the sums of the matrix over its hidden axis. -/
theorem V_w_sum (k : Fin 16) : (V m c main_v5 : FVec Ideal S264x16 .f32) (ix2 256 k) = ∑ j : Fin 256, kW m c (ix2 k j) := by
  rw [V_weights]
  pointwise

/-- The centred bias, one value per hidden unit. -/
theorem V_bias (j : Fin 256) : (V m c main_v10 : FVec Ideal S256x1 .f32) (ix2 j 0)
    = kB m c (ix1 j) - Ideal.div (∑ j : Fin 256, kB m c (ix1 j)) ((256 : ℝ) : EReal) := by
  rw [V_eq]; unfold hostOps0
  after_results
  pointwise
  rw [c256]

/-- The output weights as a row. -/
theorem V_w2 (j : Fin 256) : (V m c main_v11 : FVec Ideal S1x256 .f32) (ix2 0 j) = kW2 m c (ix2 j 0) := by
  rw [V_eq]; unfold hostOps0
  after_results
  pointwise

/-- The output bias as a one-by-one matrix. -/
theorem V_b2 : (V m c main_v12 : FVec Ideal S1x1 .f32) (ix2 0 0) = kB2 m c (ix1 0) := by
  rw [V_eq]; unfold hostOps0
  after_results
  pointwise

end Cert.Proof.Mlp

end
-- ==== Proof.Mlp.Arrays.lean ====
/-
  Hand-written, untrusted. What the kernel's two output arrays hold after its 160 points, entry by entry: every point writes one
  block of 20480 entries, and together the blocks fill the arrays.
-/
module

public import proofs.«01_k».proof.Proof.Mlp.Host
public import Idealize.ShloMosaic.Lib.Pipeline.Value

@[expose] public section

noncomputable section

namespace Cert.Proof.Mlp

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The logits as one row: entry `n` is the clipped logit of row `n` of the streamed rows. -/
def logits : FVec Ideal S1x3276800 .f32 := fun i =>
  rowLogit (V m c main_v0 : FVec Ideal S3276800x16 .f32) (V m c main_v5) (V m c main_v10) (V m c main_v11) (V m c main_v12) (i 1)

/-- The probabilities as one row. -/
def probs : FVec Ideal S1x3276800 .f32 := fun i => Ideal.logistic (logits m c i)

/-- Where the blocks lie: point `t` takes block `t` of the rows and block `t` of each output; the other operands are whole. -/
theorem index_facts : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = t.val)
      ∧ (win0_6.index t 0 = 0 ∧ win0_6.index t 1 = t.val) :=
  (by decide +kernel : ∀ t : Fin grid0.N, _)

/-- An index of a two-axis array is given by its two coordinates. -/
theorem ix2_ext {a b : ℕ} {i j : (⟨2, ![a, b]⟩ : Shape).Idx} (h0 : (i 0 : ℕ) = j 0) (h1 : (i 1 : ℕ) = j 1) : i = j := by
  funext k
  fin_cases k
  · exact Fin.ext h0
  · exact Fin.ext h1

/-- Row `n` of the rows' block at point `t` is row `20480 t + n` of the rows. -/
theorem iblk_rows (t : Fin cfg0.N) (n : Fin 20480) (k : Fin 16) (N : Fin 3276800) (hN : N.val = t.val * 20480 + n.val) :
    (iblk m c 0 t : FVec Ideal S20480x16 .f32) (ix2 n k) = (V m c main_v0 : FVec Ideal S3276800x16 .f32) (ix2 N k) := by
  obtain ⟨⟨e0, e1⟩, -⟩ := index_facts t
  show (V m c main_v0 : FVec Ideal S3276800x16 .f32) ((win0_0.rect t).emb (ix2 n k)) = _
  congr 1
  apply ix2_ext
  · rw [Pipeline.Window.rect_emb_val win0_0, e0]; exact hN.symm
  · rw [Pipeline.Window.rect_emb_val win0_0, e1]; simp

/-- The weights' block at any point is the whole of the weights. -/
theorem iblk_weights (t : Fin cfg0.N) : (iblk m c 1 t : FVec Ideal S264x16 .f32) = V m c main_v5 := by
  obtain ⟨-, ⟨e0, e1⟩, -⟩ := index_facts t
  funext i
  show (V m c main_v5 : FVec Ideal S264x16 .f32) ((win0_1.rect t).emb i) = _
  congr 1
  apply ix2_ext
  · rw [Pipeline.Window.rect_emb_val win0_1, e0]; simp
  · rw [Pipeline.Window.rect_emb_val win0_1, e1]; simp

/-- The bias's block at any point is the whole of the bias. -/
theorem iblk_bias (t : Fin cfg0.N) : (iblk m c 2 t : FVec Ideal S256x1 .f32) = V m c main_v10 := by
  obtain ⟨-, -, ⟨e0, e1⟩, -⟩ := index_facts t
  funext i
  show (V m c main_v10 : FVec Ideal S256x1 .f32) ((win0_2.rect t).emb i) = _
  congr 1
  apply ix2_ext
  · rw [Pipeline.Window.rect_emb_val win0_2, e0]; simp
  · rw [Pipeline.Window.rect_emb_val win0_2, e1]; simp

/-- The output weights' block at any point is the whole of them. -/
theorem iblk_w2 (t : Fin cfg0.N) : (iblk m c 3 t : FVec Ideal S1x256 .f32) = V m c main_v11 := by
  obtain ⟨-, -, -, ⟨e0, e1⟩, -⟩ := index_facts t
  funext i
  show (V m c main_v11 : FVec Ideal S1x256 .f32) ((win0_3.rect t).emb i) = _
  congr 1
  apply ix2_ext
  · rw [Pipeline.Window.rect_emb_val win0_3, e0]; simp
  · rw [Pipeline.Window.rect_emb_val win0_3, e1]; simp

/-- The output bias's block at any point is the whole of it. -/
theorem iblk_b2 (t : Fin cfg0.N) : (iblk m c 4 t : FVec Ideal S1x1 .f32) = V m c main_v12 := by
  obtain ⟨-, -, -, -, ⟨e0, e1⟩, -⟩ := index_facts t
  funext i
  show (V m c main_v12 : FVec Ideal S1x1 .f32) ((win0_4.rect t).emb i) = _
  congr 1
  apply ix2_ext
  · rw [Pipeline.Window.rect_emb_val win0_4, e0]; simp
  · rw [Pipeline.Window.rect_emb_val win0_4, e1]; simp

/-- Both offsets of a store or load at the origin are zero. -/
theorem origin : (![0, 0] : Fin 2 → Nat) = fun _ => 0 := funext fun a => by fin_cases a <;> rfl

/-- An index of a one-row block is its lane. -/
theorem lane_eq (y : S1x20480.Idx) : y = ix2 0 (y 1) :=
  ix2_ext (by have := (y 0).isLt; show (y 0 : ℕ) = 0; exact Nat.lt_one_iff.mp this) rfl

/-- The logit of row `y` of the blocks at point `t` is the array's entry under lane `y` of the output block. -/
theorem block_logit (t : Fin cfg0.N) (n : Fin 20480) (N : Fin 3276800) (hN : N.val = t.val * 20480 + n.val) :
    rowLogit (iblk m c 0 t : FVec Ideal S20480x16 .f32) (iblk m c 1 t) (iblk m c 2 t) (iblk m c 3 t) (iblk m c 4 t) n
      = rowLogit (V m c main_v0 : FVec Ideal S3276800x16 .f32) (V m c main_v5) (V m c main_v10) (V m c main_v11) (V m c main_v12) N := by
  rw [iblk_weights, iblk_bias, iblk_w2, iblk_b2]
  exact rowLogit_congr _ _ _ _ _ _ _ _ fun k => iblk_rows m c t n k N hN

section Bodies

variable (x0 : FVec Ideal S20480x16 .f32) (x1 : FVec Ideal S264x16 .f32) (x2 : FVec Ideal S256x1 .f32) (x3 : FVec Ideal S1x256 .f32)
  (x4 : FVec Ideal S1x1 .f32)

/-- The body leaves its first payload in the block of logits. -/
theorem out_logits : out0_6 (F := Ideal) x0 x1 x2 x3 x4 = k0_pay1 (F := Ideal) x0 x1 x2 x3 x4 := by
  unfold out0_6
  rw [View.canon_unit_zero origin, View.ld_unit_zero (S := S20480x16) origin, View.ld_unit_zero (S := S264x16) origin,
    View.ld_unit_zero (S := S256x1) origin, View.ld_unit_zero (S := S1x256) origin, View.ld_unit_zero (S := S1x1) origin]

/-- The body leaves its second payload in the block of probabilities. -/
theorem out_probs : out0_5 (F := Ideal) x0 x1 x2 x3 x4 = k0_pay2 (F := Ideal) x0 x1 x2 x3 x4 := by
  unfold out0_5
  rw [View.canon_unit_zero origin, View.ld_unit_zero (S := S20480x16) origin, View.ld_unit_zero (S := S264x16) origin,
    View.ld_unit_zero (S := S256x1) origin, View.ld_unit_zero (S := S1x256) origin, View.ld_unit_zero (S := S1x1) origin]

end Bodies

/-- What point `t` writes to the logits is block `t` of `logits`. -/
theorem flushed_logits (t : Fin cfg0.N) :
    (dats m 0 c).flushed 6 t = ((cfg0.win 6).blk t).view.read (Elt Ideal) (logits m c) := by
  obtain ⟨-, -, -, -, -, -, ⟨e0, e1⟩⟩ := index_facts t
  show (cfg0.win 6).cut (grid0.coords t) ((dats m 0 c).after 6 t) = _
  rw [after0_6]
  funext y
  show out0_6 (F := Ideal) (iblk m c 0 t) (iblk m c 1 t) (iblk m c 2 t) (iblk m c 3 t) (iblk m c 4 t) y
    = logits m c ((win0_6.rect t).emb y)
  obtain ⟨n, hn⟩ : ∃ n : Fin 20480, (y : S1x20480.Idx) = ix2 0 n := ⟨y 1, lane_eq y⟩
  subst hn
  rw [out_logits, pay1_apply]
  refine block_logit m c t _ _ ?_
  rw [Pipeline.Window.rect_emb_val win0_6, e1]
  rfl

/-- What point `t` writes to the probabilities is block `t` of `probs`. -/
theorem flushed_probs (t : Fin cfg0.N) :
    (dats m 0 c).flushed 5 t = ((cfg0.win 5).blk t).view.read (Elt Ideal) (probs m c) := by
  obtain ⟨-, -, -, -, -, ⟨e0, e1⟩, -⟩ := index_facts t
  show (cfg0.win 5).cut (grid0.coords t) ((dats m 0 c).after 5 t) = _
  rw [after0_5]
  funext y
  show out0_5 (F := Ideal) (iblk m c 0 t) (iblk m c 1 t) (iblk m c 2 t) (iblk m c 3 t) (iblk m c 4 t) y
    = probs m c ((win0_5.rect t).emb y)
  obtain ⟨n, hn⟩ : ∃ n : Fin 20480, (y : S1x20480.Idx) = ix2 0 n := ⟨y 1, lane_eq y⟩
  subst hn
  rw [out_probs, pay2_apply]
  refine congrArg Ideal.logistic (block_logit m c t _ _ ?_)
  rw [Pipeline.Window.rect_emb_val win0_5, e1]
  rfl

/-- Every entry of the logits lies in the block of some point. -/
theorem cover_logits (i : S1x3276800.Idx) : ∃ t, (cfg0.win 6).flush t = true ∧ i ∈ ((cfg0.win 6).blk t).view.set := by
  have h0 : (i 0 : ℕ) < 1 := (i 0).isLt
  have h1 : (i 1 : ℕ) < 3276800 := (i 1).isLt
  obtain ⟨t, ht⟩ : ∃ t : Fin cfg0.N, t.val = (i 1 : ℕ) / 20480 := ⟨⟨(i 1 : ℕ) / 20480, by show _ < 160; omega⟩, rfl⟩
  refine ⟨t, flush0_6 t, ?_⟩
  obtain ⟨-, -, -, -, -, -, ⟨e0, e1⟩⟩ := index_facts t
  show i ∈ ((View.whole main_v13_1).slice (win0_6.rect t)).set
  rw [View.set_slice_whole, Rect.mem_set_unit]
  intro a
  fin_cases a
  · show win0_6.index t 0 * 1 ≤ (i 0 : ℕ) ∧ (i 0 : ℕ) < win0_6.index t 0 * 1 + 1
    rw [e0]; omega
  · show win0_6.index t 1 * 20480 ≤ (i 1 : ℕ) ∧ (i 1 : ℕ) < win0_6.index t 1 * 20480 + 20480
    rw [e1]; omega

/-- Every entry of the probabilities lies in the block of some point. -/
theorem cover_probs (i : S1x3276800.Idx) : ∃ t, (cfg0.win 5).flush t = true ∧ i ∈ ((cfg0.win 5).blk t).view.set := by
  have h0 : (i 0 : ℕ) < 1 := (i 0).isLt
  have h1 : (i 1 : ℕ) < 3276800 := (i 1).isLt
  obtain ⟨t, ht⟩ : ∃ t : Fin cfg0.N, t.val = (i 1 : ℕ) / 20480 := ⟨⟨(i 1 : ℕ) / 20480, by show _ < 160; omega⟩, rfl⟩
  refine ⟨t, flush0_5 t, ?_⟩
  obtain ⟨-, -, -, -, -, ⟨e0, e1⟩, -⟩ := index_facts t
  show i ∈ ((View.whole main_v13_0).slice (win0_5.rect t)).set
  rw [View.set_slice_whole, Rect.mem_set_unit]
  intro a
  fin_cases a
  · show win0_5.index t 0 * 1 ≤ (i 0 : ℕ) ∧ (i 0 : ℕ) < win0_5.index t 0 * 1 + 1
    rw [e0]; omega
  · show win0_5.index t 1 * 20480 ≤ (i 1 : ℕ) ∧ (i 1 : ℕ) < win0_5.index t 1 * 20480 + 20480
    rw [e1]; omega

/-- After the kernel its second output array holds the logits. -/
theorem arr_logits : (dats m 0 c).arrAt 6 cfg0.N = logits m c :=
  Dat.arrAt_eq_of_cover (dats m 0 c) 6 (logits m c) (fun t _ => flushed_logits m c t) cover_logits

/-- After the kernel its first output array holds the probabilities. -/
theorem arr_probs : (dats m 0 c).arrAt 5 cfg0.N = probs m c :=
  Dat.arrAt_eq_of_cover (dats m 0 c) 5 (probs m c) (fun t _ => flushed_probs m c t) cover_probs

end Cert.Proof.Mlp

end
-- ==== Proof.Mlp.Run.lean ====
/-
  Hand-written, untrusted. What a run of the whole kernel program returns: its two results, entry by entry, and its arguments
  unchanged.
-/
module

public import proofs.«01_k».proof.Proof.Mlp.Arrays

@[expose] public section

noncomputable section

namespace Cert.Proof.Mlp

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's arrays are distinct buffers. -/
theorem arrRef_injective : Function.Injective (Pipeline.arrRef spec0) := by decide

/-- What the kernel leaves in every buffer, its arrays included. -/
abbrev left : Valuation τ sig (Elt Ideal) := Pipeline.withArrays spec0 c (V0 m c) fun w => (dats m 0 c).arrAt w cfg0.N

/-- The kernel leaves the logits in its second array. -/
theorem left_logits : (left m c (Proc.devRef .tc main_v13_1) : FVec Ideal S1x3276800 .f32) = logits m c :=
  (Pipeline.withArrays_arr spec0 arrRef_injective c (V0 m c) (fun w => (dats m 0 c).arrAt w cfg0.N) 6).trans (arr_logits m c)

/-- The kernel leaves the probabilities in its first array. -/
theorem left_probs : (left m c (Proc.devRef .tc main_v13_0) : FVec Ideal S1x3276800 .f32) = probs m c :=
  (Pipeline.withArrays_arr spec0 arrRef_injective c (V0 m c) (fun w => (dats m 0 c).arrAt w cfg0.N) 5).trans (arr_probs m c)

/-- The second result is the row of logits, cut into the two batch dimensions. -/
theorem tail_logits : (Pipeline.afterTail₀ cfgs (dats m) 0 (V0 m) [hostOps1] c main_v15 : FVec Ideal S16384x200 .f32)
    = shapeCast S16384x200 (logits m c) shapeCasts_S1x3276800_S16384x200 := by
  rw [← left_logits]
  show StableHlo.after hostOps1 (left m c) (Proc.devRef .tc main_v15) = _
  unfold hostOps1
  after_results
  rfl

/-- The first result is the row of probabilities, cut into the two batch dimensions. -/
theorem tail_probs : (Pipeline.afterTail₀ cfgs (dats m) 0 (V0 m) [hostOps1] c main_v14 : FVec Ideal S16384x200 .f32)
    = shapeCast S16384x200 (probs m c) shapeCasts_S1x3276800_S16384x200 := by
  rw [← left_probs]
  show StableHlo.after hostOps1 (left m c) (Proc.devRef .tc main_v14) = _
  unfold hostOps1
  after_results
  rfl

/-- Entry `(r, s)` of a row cut into the two batch dimensions is entry `200 r + s` of the row. -/
theorem cut_apply (x : FVec Ideal S1x3276800 .f32) (r : Fin 16384) (s : Fin 200) :
    shapeCast S16384x200 x shapeCasts_S1x3276800_S16384x200 (ix2 r s) = x (ix2 0 ⟨r.val * 200 + s.val, by omega⟩) := by
  pointwise

/-- Streamed row `200 r + s` is row `(r, s)` of the input. -/
theorem rows_apply (r : Fin 16384) (s : Fin 200) (k : Fin 16) :
    (V m c main_v0 : FVec Ideal S3276800x16 .f32) (ix2 ⟨r.val * 200 + s.val, by omega⟩ k) = kX m c (ix3 r s k) := by
  rw [V_rows]
  pointwise

/-- Entry `200 r + s` of the row of logits is the clipped logit, in the kernel's arrangement, of row `(r, s)` of the input. -/
theorem logits_apply (r : Fin 16384) (s : Fin 200) :
    logits m c (ix2 0 ⟨r.val * 200 + s.val, by omega⟩)
      = clip10 (kerLogit (fun k => kX m c (ix3 r s k)) (fun k j => kW m c (ix2 k j)) (fun j => kB m c (ix1 j))
          (fun j => kW2 m c (ix2 j 0)) (kB2 m c (ix1 0))) := by
  exact rowLogit_eq _ _ _ _ _ _ _ _ _ _ _ (rows_apply m c r s) (V_w_top m c) (V_w_sum m c) (V_bias m c) (V_w2 m c) (V_b2 m c)

/-- The kernel's first result. -/
abbrev kerProbs : FVec Ideal S16384x200 .f32 := shapeCast S16384x200 (probs m c) shapeCasts_S1x3276800_S16384x200

/-- The kernel's second result. -/
abbrev kerLogits : FVec Ideal S16384x200 .f32 := shapeCast S16384x200 (logits m c) shapeCasts_S1x3276800_S16384x200

/-- A run of the kernel program returns `kerProbs` and `kerLogits` and leaves its arguments as they were. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = kerProbs m c
      ∧ r.2.mem ((c.tc : Thread nD τ).loc main_v15) = kerLogits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v14 (Pipeline.mem_restRefs_of main_v14 (by decide) (by decide))).trans (tail_probs m c),
      ((h c).2 main_v15 (Pipeline.mem_restRefs_of main_v15 (by decide) (by decide))).trans (tail_logits m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Proof.Mlp

end
-- ==== Proof.Mlp.Reference.lean ====
/-
  Hand-written, untrusted. What the reference computes, read at one entry of the batch: the clipped logit of that entry's row and
  its logistic function.
-/
module

public import proofs.«01_k».proof.Proof.Gen.ReferenceIdeal.Run
public import proofs.«01_k».proof.Proof.Mlp.Block

@[expose] public section

noncomputable section

namespace Cert.Proof.Mlp

open Idealize.ShloMosaic Idealize.ShloMosaic.TcCoe Idealize.SL.Sem Cert.ReferenceIdeal
open scoped BigOperators

variable (m : (ℓ : Loc nD τ sig) → Buf (Elt Ideal) ℓ) (c : Dev nD)

/-- The reference's seven arguments on a device, by their mathematical names. -/
abbrev aX : FVec Ideal S16384x200x16 .f32 := m ((c.tc : Thread nD τ).loc main_arg0)
abbrev aW : FVec Ideal S16x256 .f32 := m ((c.tc : Thread nD τ).loc main_arg1)
abbrev aB : FVec Ideal S256 .f32 := m ((c.tc : Thread nD τ).loc main_arg2)
abbrev aG : FVec Ideal S256 .f32 := m ((c.tc : Thread nD τ).loc main_arg3)
abbrev aH : FVec Ideal S256 .f32 := m ((c.tc : Thread nD τ).loc main_arg4)
abbrev aW2 : FVec Ideal S256x1 .f32 := m ((c.tc : Thread nD τ).loc main_arg5)
abbrev aB2 : FVec Ideal S1 .f32 := m ((c.tc : Thread nD τ).loc main_arg6)

/-- With the scale at one and the shift at zero, the reference's logit at entry `(r, s)` is the clipped layer-norm logit of the
    entry's row. -/
theorem ref_logit_apply (hg : ∀ j : Fin 256, aG m c (ix1 j) = 1) (hh : ∀ j : Fin 256, aH m c (ix1 j) = 0) (r : Fin 16384) (s : Fin 200) :
    Value.res_main_v35 (F := Ideal) m c (ix2 r s)
      = clip10 (refLogit (fun k => aX m c (ix3 r s k)) (fun k j => aW m c (ix2 k j)) (fun j => aB m c (ix1 j))
          (fun j => aW2 m c (ix2 j 0)) (aB2 m c (ix1 0))) := by
  pointwise [Value.res_main_v35]
  have hg' : ∀ j : Fin 256, m (c.tc.loc main_arg3) (ix1 j) = (1 : EReal) := hg
  have hh' : ∀ j : Fin 256, m (c.tc.loc main_arg4) (ix1 j) = (0 : EReal) := hh
  simp only [hg', hh', c256]
  rfl

/-- The reference's probability is the logistic function of its logit. -/
theorem ref_prob_apply (i : S16384x200.Idx) :
    Value.res_main_v41 (F := Ideal) m c i = Ideal.logistic (Value.res_main_v35 (F := Ideal) m c i) := by
  unfold Value.res_main_v41 Value.res_main_v35
  pointwise
  rfl

end Cert.Proof.Mlp

end
-- ==== Proof.Mlp.Equation.lean ====
/-
  Hand-written, untrusted. The equation: on equal arguments, with every scale one and every shift zero, the kernel's two results are
  the reference's.
-/
module

public import proofs.«01_k».proof.Proof.Mlp.Run
public import proofs.«01_k».proof.Proof.Mlp.Reference

@[expose] public section

noncomputable section

namespace Cert.Proof.Mlp

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (c' : Dev Cert.ReferenceIdeal.nD)

/-- The two programs start from the same arguments. -/
structure SameArgs : Prop where
  x : aX m' c' = kX m c
  w : aW m' c' = kW m c
  b : aB m' c' = kB m c
  g : aG m' c' = kG m c
  h : aH m' c' = kH m c
  w2 : aW2 m' c' = kW2 m c
  b2 : aB2 m' c' = kB2 m c

variable {m c m' c'}

/-- The logits agree. -/
theorem logits_eq (e : SameArgs m c m' c') (hg : ∀ j : Fin 256, kG m c (ix1 j) = 1) (hh : ∀ j : Fin 256, kH m c (ix1 j) = 0) :
    kerLogits m c = Cert.ReferenceIdeal.Value.res_main_v35 (F := Ideal) m' c' := by
  funext i
  obtain ⟨r, s, rfl⟩ : ∃ (r : Fin 16384) (s : Fin 200), i = ix2 r s := ⟨i 0, i 1, ix2_ext rfl rfl⟩
  rw [kerLogits, cut_apply, logits_apply, kerLogit_eq_refLogit,
    ref_logit_apply m' c' (fun j => by rw [e.g]; exact hg j) (fun j => by rw [e.h]; exact hh j), e.x, e.w, e.b, e.w2, e.b2]

/-- The probabilities agree. -/
theorem probs_eq (e : SameArgs m c m' c') (hg : ∀ j : Fin 256, kG m c (ix1 j) = 1) (hh : ∀ j : Fin 256, kH m c (ix1 j) = 0) :
    kerProbs m c = Cert.ReferenceIdeal.Value.res_main_v41 (F := Ideal) m' c' := by
  funext i
  rw [ref_prob_apply, ← logits_eq e hg hh]
  rfl

end Cert.Proof.Mlp

end
-- ==== Proof.Mlp.Pre.lean ====
/-
  Hand-written, untrusted. What the precondition says of the arguments.
-/
module

public import proofs.«01_k».proof.Pre_unit_affine
public import Idealize.ShloMosaic.Lib.Pipeline.Value
public import Idealize.ShloMosaic.Lib.Pointwise

@[expose] public section

noncomputable section

namespace Cert.Proof.Mlp

open Idealize.ShloMosaic Cert.Pre_unit_affine

/-- The precondition's one shape relation. -/
theorem pre_facts : Cert.Pre_unit_affine.Facts := ⟨by decide⟩

/-- If the precondition holds then every scale is one and every shift is zero. -/
theorem pre_unit_affine [Cert.Pre_unit_affine.Facts] (a0 : FVec Ideal S16384x200x16 .f32) (a1 : FVec Ideal S16x256 .f32)
    (a2 a3 a4 : FVec Ideal S256 .f32) (a5 : FVec Ideal S256x1 .f32) (a6 : FVec Ideal S1 .f32)
    (h : fn (F := Ideal) a0 a1 a2 a3 a4 a5 a6 = fun _ => 1#1) (j : Fin 256) : a3 (ix1 j) = 1 ∧ a4 (ix1 j) = 0 := by
  have e := congrFun h (ix1 j)
  have e' : (Ideal.cmp .oeq (a3 (ix1 j)) (Ideal.ofBits .f32 0x3F800000#32)) &&& (Ideal.cmp .oeq (a4 (ix1 j)) (Ideal.ofBits .f32 0x00000000#32)) = 1#1 := e
  rw [Ideal.ofBits_one_f32, Ideal.ofBits_zero_f32] at e'
  by_cases h3 : a3 (ix1 j) = 1 <;> by_cases h4 : a4 (ix1 j) = 0 <;> simp [Ideal.cmp, h3, h4] at e' ⊢

end Cert.Proof.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Mlp.Equation
public import proofs.«01_k».proof.Proof.Mlp.Pre

@[expose] public section

noncomputable section

namespace Cert.Proof

open Idealize.ShloMosaic Idealize.SL.Sem

/-- The reference runs, leaves its arguments as they were, and ends with every counter at zero. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2.2, sem_eq_zero_of_no_sems (by decide) r.2⟩)
    (Cert.ReferenceIdeal.Value.run (F := Ideal) m g)

/-- The kernel's two results are the reference's on equal arguments, where every scale is one and every shift is zero. -/
theorem values [hPre : Cert.Pre_unit_affine.Facts] :
    Cert.algebraic_KernelIdeal_ReferenceIdeal_pre_unit_affine (hKernelIdeal := Cert.KernelIdeal.Gen.facts)
      (hReferenceIdeal := Cert.ReferenceIdeal.Gen.facts) (hPre_unit_affine := hPre) := by
  intro m g m' g' hpre hargs
  have e : ∀ c, Mlp.SameArgs m c m' c := fun c =>
    have ⟨x, w, b, g, h, w2, b2⟩ := hargs c
    ⟨x, w, b, g, h, w2, b2⟩
  have hgh := fun c => Mlp.pre_unit_affine _ _ _ _ _ _ _ (hpre c)
  refine ⟨Mlp.kerProbs m, Mlp.kerLogits m, Mlp.kernel_run m g, ?_⟩
  refine (θ_run (Cert.ReferenceIdeal.defs (F := Ideal)) _ _).mono (fun r h c => ?_) (Cert.ReferenceIdeal.Value.run (F := Ideal) m' g')
  have e1 := Mlp.probs_eq (e c) (fun j => (hgh c j).1) (fun j => (hgh c j).2)
  have e2 := Mlp.logits_eq (e c) (fun j => (hgh c j).1) (fun j => (hgh c j).2)
  exact ⟨(h c).1.trans e1.symm, (h c).2.1.trans e2.symm, (h c).2.2⟩

/-- Every claim holds. -/
theorem claim : Cert.Claim :=
  ⟨Cert.Kernel.Gen.facts, Cert.KernelIdeal.Gen.facts, Cert.ReferenceIdeal.Gen.facts, Mlp.pre_facts,
    fun m g _ => Cert.Kernel.Gen.frame m g, fun m g _ => Cert.KernelIdeal.Gen.frame m g, fun m g _ => Cert.KernelIdeal.Gen.frame m g,
    reference_frame, fun m g _ => reference_frame m g trivial, trivial,
    values (hPre := Mlp.pre_facts)⟩

end Cert.Proof

end
